-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_enough_above [hPre_enough_above : Cert.Pre_enough_above.Facts] (m : (ℓ : Loc Cert.KernelIdeal.nD Cert.KernelIdeal.τ Cert.KernelIdeal.sig) → Buf (Elt Ideal) ℓ) : Prop :=
  ∀ c : Dev Cert.KernelIdeal.nD,
    (Cert.Pre_enough_above.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_enough_above [hPre_enough_above : Cert.Pre_enough_above.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_enough_above.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_enough_above [hKernelIdeal : Cert.KernelIdeal.Facts] [hPre_enough_above : Cert.Pre_enough_above.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_enough_above m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_enough_above [hReferenceIdeal : Cert.ReferenceIdeal.Facts] [hPre_enough_above : Cert.Pre_enough_above.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_enough_above m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_enough_above [hKernelIdeal : Cert.KernelIdeal.Facts] [hReferenceIdeal : Cert.ReferenceIdeal.Facts] [hPre_enough_above : Cert.Pre_enough_above.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_enough_above m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_enough_above : Cert.Pre_enough_above.Facts),
    quiescent_Kernel (hKernel := hKernel)
    ∧ quiescent_KernelIdeal (hKernelIdeal := hKernelIdeal)
    ∧ quiescent_KernelIdeal_pre_enough_above (hKernelIdeal := hKernelIdeal) (hPre_enough_above := hPre_enough_above)
    ∧ quiescent_ReferenceIdeal (hReferenceIdeal := hReferenceIdeal)
    ∧ quiescent_ReferenceIdeal_pre_enough_above (hReferenceIdeal := hReferenceIdeal) (hPre_enough_above := hPre_enough_above)
    ∧ preserves_Kernel_KernelIdeal
    ∧ algebraic_KernelIdeal_ReferenceIdeal_pre_enough_above (hKernelIdeal := hKernelIdeal) (hReferenceIdeal := hReferenceIdeal) (hPre_enough_above := hPre_enough_above)
-- ==== Pre_enough_above.lean ====
abbrev S32x32x32768 : Shape := ⟨3, ![32, 32, 32768]⟩
abbrev S32x32x32767 : Shape := ⟨3, ![32, 32, 32767]⟩
abbrev S32x32x9 : Shape := ⟨3, ![32, 32, 9]⟩
abbrev S_ : Shape := ⟨0, ![]⟩

class Facts : Prop where
  slices_S32x32x32768_S32x32x32767_0_0_1 : S32x32x32768.Slices ![0, 0, 1] S32x32x32767
  sliceFits_S32x32x32767_S32x32x9 : S32x32x32767.Slices (fun _ => 0) S32x32x9
  bcast_S_S32x32x9 : S_.BroadcastsInDim S32x32x9 (![] : Fin 0 → Fin S32x32x9.rank)
  reducesTo_S32x32x9_S_d0_1_2 : S32x32x9.ReducesTo [0, 1, 2] S_
  h_S_ : 0 < S_.numel

variable [Facts]

def fn {F : FTy → Type} [FloatOps F] (main_arg0 : FVec F S32x32x32768 .f32) : IVec S_ 1 :=
  let main_v0 : FVec F S32x32x32767 .f32 := (extractStridedSlice S32x32x32767 ![0, 0, 1] · slices_S32x32x32768_S32x32x32767_0_0_1) main_arg0
  let main_values : FVec F S32x32x9 .f32 := (fun x => (Host.topK S32x32x9 2 (FloatOps.cmpfTotal .gt) x sliceFits_S32x32x32767_S32x32x9).1) main_v0
  let main_indices : IVec S32x32x9 32 := (fun x => (Host.topK S32x32x9 2 (FloatOps.cmpfTotal .gt) x sliceFits_S32x32x32767_S32x32x9).2) main_v0
  let main_cst : FVec F S_ .f32 := constant S_ .f32 0xFF800000#32
  let main_v1 : FVec F S32x32x9 .f32 := broadcastInDim S32x32x9 ![] bcast_S_S32x32x9 main_cst
  let main_v2 : IVec S32x32x9 1 := cmpf .ogt main_values main_v1
  let main_c : IVec S_ 1 := constantI S_ 1 1#1
  let main_v3 : IVec S_ 1 := (fun x v => Host.reduce IntOp.andi x v reducesTo_S32x32x9_S_d0_1_2 h_S_) main_v2 main_c
  main_v3
-- ==== Kernel.lean ====
abbrev S32x32x32768 : Shape := ⟨3, ![32, 32, 32768]⟩
abbrev S1x8x32768 : Shape := ⟨3, ![1, 8, 32768]⟩
abbrev S1x8 : Shape := ⟨2, ![1, 8]⟩
abbrev S1x8x1 : Shape := ⟨3, ![1, 8, 1]⟩

abbrev nBuf : Space → Nat
  | .hbm => 2
  | .vmem => 4
  | .smem => 0
  | _ => 0

abbrev bufTy : (tb : Table) → Fin (tcTables nBuf tb) → BufTy
  | .hbm, ⟨0, _⟩ => ⟨S32x32x32768, .f32⟩
  | .hbm, ⟨1, _⟩ => ⟨S32x32x32768, .f32⟩
  | .local _ .vmem, ⟨0, _⟩ => ⟨S1x8x32768, .f32⟩
  | .local _ .vmem, ⟨1, _⟩ => ⟨S1x8x32768, .f32⟩
  | .local _ .vmem, ⟨2, _⟩ => ⟨S1x8x32768, .f32⟩
  | .local _ .vmem, ⟨3, _⟩ => ⟨S1x8x32768, .f32⟩
  | _, _ => ⟨S32x32x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ReferenceIdeal.lean ====
abbrev S32x32x32768 : Shape := ⟨3, ![32, 32, 32768]⟩
abbrev S32x32x10 : Shape := ⟨3, ![32, 32, 10]⟩
abbrev S32 : Shape := ⟨1, ![32]⟩
abbrev S32x1x1 : Shape := ⟨3, ![32, 1, 1]⟩
abbrev S1x32x1 : Shape := ⟨3, ![1, 32, 1]⟩
abbrev S_ : Shape := ⟨0, ![]⟩
abbrev S32x32x10x1 : Shape := ⟨4, ![32, 32, 10, 1]⟩
abbrev S32x32x10x3 : Shape := ⟨4, ![32, 32, 10, 3]⟩

abbrev nBuf : Space → Nat
  | .hbm => 37
  | .vmem => 0
  | .smem => 0
  | _ => 0

abbrev bufTy : (tb : Table) → Fin (tcTables nBuf tb) → BufTy
  | .hbm, ⟨0, _⟩ => ⟨S32x32x32768, .f32⟩
  | .hbm, ⟨1, _⟩ => ⟨S32x32x10, .f32⟩
  | .hbm, ⟨2, _⟩ => ⟨S32x32x10, .i32⟩
  | .hbm, ⟨3, _⟩ => ⟨S32, .i32⟩
  | .hbm, ⟨4, _⟩ => ⟨S32x1x1, .i32⟩
  | .hbm, ⟨5, _⟩ => ⟨S32, .i32⟩
  | .hbm, ⟨6, _⟩ => ⟨S1x32x1, .i32⟩
  | .hbm, ⟨7, _⟩ => ⟨S_, .f32⟩
  | .hbm, ⟨8, _⟩ => ⟨S32x32x32768, .f32⟩
  | .hbm, ⟨9, _⟩ => ⟨S_, .i32⟩
  | .hbm, ⟨10, _⟩ => ⟨S32x1x1, .i32⟩
  | .hbm, ⟨11, _⟩ => ⟨S32x1x1, .i1⟩
  | .hbm, ⟨12, _⟩ => ⟨S_, .i32⟩
  | .hbm, ⟨13, _⟩ => ⟨S32x1x1, .i32⟩
  | .hbm, ⟨14, _⟩ => ⟨S32x1x1, .i32⟩
  | .hbm, ⟨15, _⟩ => ⟨S32x1x1, .i32⟩
  | .hbm, ⟨16, _⟩ => ⟨S_, .i32⟩
  | .hbm, ⟨17, _⟩ => ⟨S1x32x1, .i32⟩
  | .hbm, ⟨18, _⟩ => ⟨S1x32x1, .i1⟩
  | .hbm, ⟨19, _⟩ => ⟨S_, .i32⟩
  | .hbm, ⟨20, _⟩ => ⟨S1x32x1, .i32⟩
  | .hbm, ⟨21, _⟩ => ⟨S1x32x1, .i32⟩
  | .hbm, ⟨22, _⟩ => ⟨S1x32x1, .i32⟩
  | .hbm, ⟨23, _⟩ => ⟨S_, .i32⟩
  | .hbm, ⟨24, _⟩ => ⟨S32x32x10, .i32⟩
  | .hbm, ⟨25, _⟩ => ⟨S32x32x10, .i1⟩
  | .hbm, ⟨26, _⟩ => ⟨S_, .i32⟩
  | .hbm, ⟨27, _⟩ => ⟨S32x32x10, .i32⟩
  | .hbm, ⟨28, _⟩ => ⟨S32x32x10, .i32⟩
  | .hbm, ⟨29, _⟩ => ⟨S32x32x10, .i32⟩
  | .hbm, ⟨30, _⟩ => ⟨S32x32x10, .i32⟩
  | .hbm, ⟨31, _⟩ => ⟨S32x32x10, .i32⟩
  | .hbm, ⟨32, _⟩ => ⟨S32x32x10x1, .i32⟩
  | .hbm, ⟨33, _⟩ => ⟨S32x32x10x1, .i32⟩
  | .hbm, ⟨34, _⟩ => ⟨S32x32x10x1, .i32⟩
  | .hbm, ⟨35, _⟩ => ⟨S32x32x10x3, .i32⟩
  | .hbm, ⟨36, _⟩ => ⟨S32x32x32768, .f32⟩
  | _, _ => ⟨S32x32x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_values : Ref sig .tc := ⟨.hbm, 1, rfl⟩
abbrev main_indices : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_3 : Ref sig .tc := ⟨.hbm, 23, rfl⟩
abbrev main_v15 : Ref sig .tc := ⟨.hbm, 24, rfl⟩
abbrev main_v16 : Ref sig .tc := ⟨.hbm, 25, rfl⟩
abbrev main_c_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Proof.RowFold.lean ====
/- The two folds of a round, on one row: the greatest entry, and the least word under a signed comparison. -/
module

public import Idealize.ShloMosaic.PureOps.Ideal.Laws
public import Idealize.ShloMosaic.Lib.SortNet.Extract

@[expose] public section

namespace Cert.TopRow

open Idealize.ShloMosaic

variable {n : Nat}

/-- The word `0xFF800000` denotes `-∞`, the least extended real. -/
theorem ofBits_minus_infinity : Ideal.ofBits .f32 0xFF800000#32 = ⊥ := by simp [Ideal.ofBits, Ideal.ieee]

/-- The maximum of a row, folded from `-∞`, is any entry that no other exceeds. -/
theorem fold_max_eq (w : Fin n → EReal) (p : Fin n) (hp : ∀ e, w e ≤ w p) :
    (Finset.univ : Finset (Fin n)).fold max ⊥ w = w p := by
  apply le_antisymm
  · exact (Finset.fold_max_le _).mpr ⟨bot_le, fun e _ => hp e⟩
  · exact (Finset.le_fold_max _).mpr (.inr ⟨p, Finset.mem_univ p, le_rfl⟩)

/-- The signed minimum of a row of words is any word that is below all of them and below the word the fold starts from. -/
theorem fold_minsi_eq (init : BitVec 32) (f : Fin n → BitVec 32) (p : Fin n) (hinit : (f p).toInt ≤ init.toInt)
    (hp : ∀ e, (f p).toInt ≤ (f e).toInt) :
    (Finset.univ : Finset (Fin n)).fold IKind.minsi.op init f = f p := by
  apply BitVec.eq_of_toInt_eq
  have hom := Finset.fold_hom (op := IKind.minsi.op) (op' := min) (m := fun v : BitVec 32 => v.toInt) (b := init) (f := f)
    (s := (Finset.univ : Finset (Fin n))) (fun a b => SortNet.toInt_minsi a b)
  rw [← hom]
  apply le_antisymm
  · exact (Finset.fold_min_le _).mpr (.inr ⟨p, Finset.mem_univ p, le_rfl⟩)
  · exact (Finset.le_fold_min _).mpr ⟨hinit, fun e _ => hp e⟩

/-- A small number read back from its word, signed. -/
theorem toInt_word (k : Nat) (hk : k ≤ 32768) : (BitVec.ofNat 32 k).toInt = (k : Int) := by
  rw [BitVec.toInt_eq_toNat_of_lt] <;> rw [BitVec.toNat_ofNat] <;> omega

/-- Small numbers with equal words are equal. -/
theorem word_inj {a b : Nat} (ha : a ≤ 32768) (hb : b ≤ 32768) (h : BitVec.ofNat 32 a = BitVec.ofNat 32 b) : a = b := by
  have h' := congrArg BitVec.toInt h
  rw [toInt_word a ha, toInt_word b hb] at h'
  exact_mod_cast h'

end Cert.TopRow
-- ==== Proof.Order.lean ====
/- The order in which a row's positions come when the row is sorted greatest first and equal entries keep their places.
   `order x k` is the position that such a sort puts at place `k`. This module says three things of it: every position has
   exactly one place, an entry at an earlier place is greater than one at a later place or equal to it and further left
   (`order_ahead`), and the row with its first `k` places emptied has its leftmost maximum at place `k`
   (`maximum_at_order`), if place `k` holds no least value, or the leftmost position. -/
module

public import Idealize.ShloMosaic.Lib.SortPrefix

@[expose] public section

namespace Cert.TopRow

open Idealize.ShloMosaic

variable {α : Type} [LinearOrder α] {n : Nat}

/-- "The entry at `i` is strictly greater than the entry at `j`". -/
def greater (x : Fin n → α) (i j : Fin n) : Bool := decide (x j < x i)

/-- "Position `i` comes ahead of position `j`": its entry is greater, or the two are equal and `i` is further left. -/
def ahead (x : Fin n → α) (i j : Fin n) : Bool := decide (x j < x i) || (decide (x i = x j) && decide (i < j))

/-- The position that a stable sort, greatest first, puts at place `k`. -/
def order (x : Fin n → α) : Fin n → Fin n := sortedFrom (greater x)

/-- "Comes ahead of" is a strict total order of the positions. -/
theorem ahead_strict_total (x : Fin n → α) : StrictTotalBefore (ahead x) :=
  StrictTotalBefore.of_key_then_position (fun a b : α => decide (b < a)) x (fun a => by simp)
    (fun a b c hab hbc => by
      rw [decide_eq_true_eq] at hab hbc ⊢
      exact hbc.trans hab)
    (fun a b => by
      rcases lt_trichotomy a b with h | h | h
      · exact .inr (.inr (decide_eq_true h))
      · exact .inr (.inl h)
      · exact .inl (decide_eq_true h))

/-- Of two positions the one further right comes ahead only if its entry is strictly greater. -/
theorem greater_eq_ahead (x : Fin n → α) {a b : Fin n} (hab : a < b) : greater x b a = ahead x b a := by
  have h : decide (b < a) = false := decide_eq_false (not_lt.mpr hab.le)
  unfold greater ahead
  rw [h, Bool.and_false, Bool.or_false]

/-- On positions listed left to right, sorting by "strictly greater" and keeping equal entries in place is sorting by
    "comes ahead of". -/
theorem stableSort_greater (x : Fin n → α) (l : List (Fin n)) (hl : l.Pairwise (· < ·)) :
    stableSort (greater x) l = stableSort (ahead x) l := by
  induction l with
  | nil => rfl
  | cons a l ih =>
    obtain ⟨ha, hl⟩ := List.pairwise_cons.mp hl
    show insertBefore (greater x) a (stableSort (greater x) l) = insertBefore (ahead x) a (stableSort (ahead x) l)
    rw [ih hl]
    exact insertBefore_congr _ _ a _ fun b hb => greater_eq_ahead x (ha b ((perm_stableSort _ l).mem_iff.mp hb))

/-- So `order` is also the sort by "comes ahead of". -/
theorem order_eq_sorted_ahead (x : Fin n → α) : order x = sortedFrom (ahead x) := by
  have h : sortPositions n (greater x) = sortPositions n (ahead x) :=
    stableSort_greater x _ (List.pairwise_lt_finRange n)
  funext k
  unfold order sortedFrom
  rw [List.get_eq_getElem, List.get_eq_getElem]
  exact List.getElem_of_eq h _

/-- No position has two places. -/
theorem order_injective (x : Fin n → α) : Function.Injective (order x) := sortedFrom_injective _

/-- Every position has a place. -/
theorem order_surjective (x : Fin n → α) : Function.Surjective (order x) := sortedFrom_surjective _

/-- Of two places the earlier holds the greater entry, or an equal one from further left. -/
theorem order_ahead (x : Fin n → α) {i j : Fin n} (hij : i < j) :
    x (order x j) < x (order x i) ∨ (x (order x i) = x (order x j) ∧ order x i < order x j) := by
  have hB := ahead_strict_total x
  have hno : ahead x (order x j) (order x i) = false := by
    rw [order_eq_sorted_ahead]
    exact sortedFrom_noInversion (ahead x) (ahead x) (fun a b h => hB.asymm a b h) (fun _ _ h => h) hB.negTrans i j hij
  rcases hB.total (order x i) (order x j) fun h => hij.ne (order_injective x h) with h | h
  · unfold ahead at h
    simpa only [Bool.or_eq_true, Bool.and_eq_true, decide_eq_true_eq] using h
  · rw [hno] at h
    exact absurd h (by decide)

/-- "Position `e` is at one of the first `k` places". -/
def Among (x : Fin n → α) (k : Nat) (e : Fin n) : Prop := ∃ p : Fin n, p.val < k ∧ order x p = e

/-- No position is among the first zero. -/
theorem not_among_zero (x : Fin n → α) (e : Fin n) : ¬ Among x 0 e := fun ⟨p, hp, _⟩ => Nat.not_lt_zero p.val hp

/-- The first `k + 1` places are the first `k` and place `k`. -/
theorem among_succ (x : Fin n → α) (k : Fin n) (e : Fin n) : Among x (k.val + 1) e ↔ Among x k.val e ∨ e = order x k := by
  constructor
  · rintro ⟨p, hp, he⟩
    rcases Nat.lt_or_ge p.val k.val with h | h
    · exact .inl ⟨p, h, he⟩
    · have hpk : p = k := Fin.ext (Nat.le_antisymm (Nat.lt_succ_iff.mp hp) h)
      exact .inr (by rw [← he, hpk])
  · rintro (⟨p, hp, he⟩ | he)
    · exact ⟨p, Nat.lt_succ_of_lt hp, he⟩
    · exact ⟨k, Nat.lt_succ_self _, he.symm⟩

/-- The position at place `k` is not among the first `k`. -/
theorem not_among_order (x : Fin n → α) (k : Fin n) : ¬ Among x k.val (order x k) := fun ⟨p, hp, he⟩ => by
  have hpk : p = k := order_injective x he
  rw [hpk] at hp
  exact Nat.lt_irrefl _ hp

/-- "Each of the first `k` places holds an entry above the least value, or the leftmost position": what a procedure needs that
    takes the leftmost maximum, `k` times, and writes the least value where it has taken one. -/
def Takable [OrderBot α] (x : Fin n → α) (k : Nat) : Prop :=
  ∀ p : Fin n, p.val < k → ⊥ < x (order x p) ∨ ∀ e, order x p ≤ e

/-- A row whose first `k` places are emptied, that is hold the least value, has its maximum at place `k` and, among equal
    maxima, leftmost there, provided that place `k` holds an entry above the least value, or the leftmost position. -/
theorem maximum_at_order [OrderBot α] (x : Fin n → α) (k : Fin n) (hk : ⊥ < x (order x k) ∨ ∀ e, order x k ≤ e) (w : Fin n → α)
    (hin : ∀ e, Among x k.val e → w e = ⊥) (hout : ∀ e, ¬ Among x k.val e → w e = x e) :
    w (order x k) = x (order x k) ∧ (∀ e, w e ≤ x (order x k)) ∧ ∀ e, w e = x (order x k) → order x k ≤ e := by
  refine ⟨hout _ (not_among_order x k), fun e => ?_, fun e he => ?_⟩
  · by_cases ha : Among x k.val e
    · rw [hin e ha]; exact bot_le
    · rw [hout e ha]
      obtain ⟨j, rfl⟩ := order_surjective x e
      rcases lt_trichotomy j k with h | h | h
      · exact absurd ⟨j, h, rfl⟩ ha
      · rw [h]
      · rcases order_ahead x h with h | ⟨h, -⟩
        · exact h.le
        · exact h.ge
  · by_cases ha : Among x k.val e
    · rw [hin e ha] at he
      exact hk.elim (fun h => absurd he h.ne) fun h => h e
    · rw [hout e ha] at he
      obtain ⟨j, rfl⟩ := order_surjective x e
      rcases lt_trichotomy j k with h | h | h
      · exact absurd ⟨j, h, rfl⟩ ha
      · rw [h]
      · rcases order_ahead x h with h | ⟨-, h⟩
        · exact absurd he h.ne
        · exact h.le

/-- If `k` entries of the row after its first one are above the least value, then `k + 1` places are as `Takable` asks. For
    suppose that one of these places holds the least value at another position than the first. The `k` entries, and the first
    position, all come ahead of it, and these are too many. -/
theorem takable_of_others [OrderBot α] (x : Fin (n + 1) → α) (k : Nat) (f : Fin k → Fin n) (hf : Function.Injective f)
    (hx : ∀ p, ⊥ < x (f p).succ) : Takable x (k + 1) := by
  intro q hq
  by_contra hne
  rw [not_or] at hne
  have hbot : x (order x q) = ⊥ := not_bot_lt_iff.mp hne.1
  have hzero : order x q ≠ 0 := fun h => hne.2 fun e => by rw [h]; exact Fin.zero_le e
  -- the first position and the `k` others, and that each of them has a place ahead of `q`
  let g : Fin (k + 1) → Fin (n + 1) := Fin.cases 0 fun p => (f p).succ
  have hg : Function.Injective g := fun a b hab => by
    induction a using Fin.cases <;> induction b using Fin.cases
    · rfl
    · exact absurd hab (Fin.succ_ne_zero _).symm
    · exact absurd hab (Fin.succ_ne_zero _)
    · exact congrArg Fin.succ (hf (Fin.succ_injective _ hab))
  have hcase : ∀ j, g j = 0 ∨ ⊥ < x (g j) := fun j => by
    induction j using Fin.cases with
    | zero => exact .inl rfl
    | succ p => exact .inr (hx p)
  have hplace : ∀ j, ∃ s : Fin (n + 1), s < q ∧ order x s = g j := fun j => by
    obtain ⟨s, hs⟩ := order_surjective x (g j)
    refine ⟨s, ?_, hs⟩
    rcases lt_trichotomy s q with h | h | h
    · exact h
    · rw [h] at hs
      rcases hcase j with h0 | h0
      · exact absurd (hs.trans h0) hzero
      · rw [← hs, hbot] at h0
        exact absurd h0 (lt_irrefl _)
    · rcases order_ahead x h with h' | ⟨h', h''⟩
      · rw [hbot] at h'
        exact absurd h' not_lt_bot
      · rw [hs] at h' h''
        rcases hcase j with h0 | h0
        · rw [h0] at h''
          exact absurd h'' (Fin.not_lt_zero _)
        · rw [← h', hbot] at h0
          exact absurd h0 (lt_irrefl _)
  choose s hlt hs using hplace
  have hinj : Function.Injective fun j => (⟨(s j).val, hlt j⟩ : Fin q.val) := fun a b hab => by
    have h : s a = s b := Fin.ext (Fin.mk.inj hab)
    exact hg (by rw [← hs a, ← hs b, h])
  have hcard := Fintype.card_le_of_injective _ hinj
  rw [Fintype.card_fin, Fintype.card_fin] at hcard
  omega

end Cert.TopRow
-- ==== Proof.Round.lean ====
/- The kernel's body as ten applications of one round, and one round read on one row.
   A round takes the entries of each row that are left (`work`), finds the row's maximum, the leftmost position that holds
   it, marks that position (`hit`) and empties it in `work`. The body keeps the input at the positions that some round
   marked and writes zero elsewhere. -/
module

public import proofs.«01_k».proof.Proof.Gen.KernelIdeal.Frame
public import Idealize.ShloMosaic.Lib.Pipeline.Value
public import Idealize.ShloMosaic.Lib.Pointwise
public import proofs.«01_k».proof.Proof.RowFold
public import proofs.«01_k».proof.Proof.Order

@[expose] public section

noncomputable section

namespace Cert.TopRow

open Cert.KernelIdeal Cert.KernelIdeal.Gen Idealize.ShloMosaic

/-! ## The body is ten rounds -/

section rounds
variable {F : FTy → Type} [FloatOps F]

/-- Every position's own number, along the last axis. -/
def positions : IVec S1x8x32768 32 := iota .tc S1x8x32768 32 [2] iota_S1x8x32768_d2_w32

/-- The maximum of each row. -/
def rowMax (work : FVec F S1x8x32768 .f32) : FVec F S1x8 .f32 :=
  multiReduction .maximumf [2] S1x8 work 0xFF800000#32 reduces_S1x8x32768_S1x8 (.inl rfl) rfl

/-- A position's number where the row's maximum is, 32768 elsewhere. -/
def candidates (work : FVec F S1x8x32768 .f32) : IVec S1x8x32768 32 :=
  select (cmpf .oeq work (broadcastTo S1x8x32768 (shapeCast S1x8x1 (rowMax work) shapeCasts_S1x8_S1x8x1) broadcasts_S1x8x1_S1x8x32768))
    positions (broadcast S1x8x32768 32768#32)

/-- The least candidate of each row. -/
def rowPick (work : FVec F S1x8x32768 .f32) : IVec S1x8 32 :=
  multiReductionI .minsi [2] S1x8 (candidates work) 2147483647#32 reduces_S1x8x32768_S1x8 rfl

/-- The position a round marks: the one whose number is the row's least candidate. -/
def hit (work : FVec F S1x8x32768 .f32) : IVec S1x8x32768 1 :=
  cmpi .eq positions (broadcastTo S1x8x32768 (shapeCast S1x8x1 (rowPick work) shapeCasts_S1x8_S1x8x1) broadcasts_S1x8x1_S1x8x32768)

/-- What is left after a round: the marked position emptied. -/
def next (work : FVec F S1x8x32768 .f32) : FVec F S1x8x32768 .f32 :=
  select (hit work) (broadcast S1x8x32768 (Scalar.ofBits .f32 0xFF800000#32)) work

/-- The entries left after `k` rounds. -/
def left (x : FVec F S1x8x32768 .f32) : Nat → FVec F S1x8x32768 .f32
  | 0 => x
  | k + 1 => next (left x k)

/-- The positions marked in the first `k` rounds. -/
def marked (x : FVec F S1x8x32768 .f32) : Nat → IVec S1x8x32768 1
  | 0 => broadcast S1x8x32768 0#1
  | k + 1 => ori (marked x k) (hit (left x k))

/-- The body's result: the input at the positions marked in ten rounds, zero elsewhere. -/
def body (x : FVec F S1x8x32768 .f32) : FVec F S1x8x32768 .f32 :=
  select (marked x 10) x (broadcast S1x8x32768 (Scalar.ofBits .f32 0x00000000#32))

/-- The entries left after the first three rounds, as the program computes them. -/
theorem left_three (x : FVec F S1x8x32768 .f32) : k0_pay7 x = left x 3 := rfl

/-- The positions marked in the first three rounds, as the program computes them. -/
theorem marked_three (x : FVec F S1x8x32768 .f32) : k0_pay6 x = marked x 3 := rfl

/-- The entries left after three more rounds. -/
theorem left_six (x : FVec F S1x8x32768 .f32) : k0_pay14 positions (left x 3) = left x 6 := rfl

/-- The positions marked in three more rounds. -/
theorem marked_six (x : FVec F S1x8x32768 .f32) : k0_pay13 positions (marked x 3) (left x 3) = marked x 6 := rfl

/-- The candidates of the seventh round. -/
theorem candidates_six (x : FVec F S1x8x32768 .f32) : k0_pay15 positions (left x 3) = candidates (left x 6) := rfl

/-- The last four rounds and the choice between the input and zero. -/
theorem body_eq (x : FVec F S1x8x32768 .f32) :
    k0_pay16 x positions (marked x 6) (left x 6) (candidates (left x 6)) = body x := rfl

/-- What the program leaves in the output block is the body of ten rounds. -/
theorem out_eq (x : Vec F S1x8x32768 .f32) : out0_1 x = body x := by
  have h0 : (![0, 0, 0] : Fin S1x8x32768.rank → Nat) = fun _ => 0 := by
    funext a
    match a with
    | ⟨0, _⟩ => rfl
    | ⟨1, _⟩ => rfl
    | ⟨2, _⟩ => rfl
  have hld : View.ld x r0_0 = x := View.ld_unit_zero h0 _ x
  unfold out0_1 k0_pay18
  rw [hld, View.canon_unit_zero h0]
  show k0_pay16 x positions (k0_pay13 positions (k0_pay6 x) (k0_pay7 x)) (k0_pay14 positions (k0_pay7 x))
    (k0_pay15 positions (k0_pay7 x)) = body x
  rw [left_three, marked_three, left_six, marked_six, candidates_six, body_eq]

end rounds

end Cert.TopRow
-- ==== Proof.RoundRow.lean ====
/- One round read on one row, at the extended reals, and the ten rounds by induction: after `k` rounds exactly the first `k`
   places of the row's order are marked, and they are the ones emptied. -/
module

public import proofs.«01_k».proof.Proof.Round

@[expose] public section

noncomputable section

namespace Cert.TopRow

open Cert.KernelIdeal Cert.KernelIdeal.Gen Idealize.ShloMosaic

/-- Row `r` of a block of eight rows. -/
def row {α : Type} (w : S1x8x32768.Idx → α) (r : Fin 8) : Fin 32768 → α := fun e => w (ix3 0 r e)

/-- A value per row spread over the row's positions is that value at each of them. -/
theorem spread_apply {α : Type} (v : S1x8.Idx → α) (r : Fin 8) (e : Fin 32768) :
    broadcastTo S1x8x32768 (shapeCast S1x8x1 v shapeCasts_S1x8_S1x8x1) broadcasts_S1x8x1_S1x8x32768 (ix3 0 r e)
      = v (ix2 0 r) := by
  pointwise

/-- The index that a row and a position along it make. -/
theorem lift_eq (r : Fin 8) (e : Fin 32768) : reduces_S1x8x32768_S1x8.lift (ix2 0 r) e = ix3 0 r e := by
  funext a
  match a with
  | ⟨0, _⟩ => rfl
  | ⟨1, _⟩ => rfl
  | ⟨2, _⟩ => rfl

/-- A row's maximum is the fold of `max` over its entries from `-∞`. -/
theorem rowMax_apply (w : FVec Ideal S1x8x32768 .f32) (r : Fin 8) :
    rowMax w (ix2 0 r) = (Finset.univ : Finset (Fin 32768)).fold max ⊥ (row w r) := by
  refine (Ideal.multiReduction_maximumf_single w _ reduces_S1x8x32768_S1x8 _ _ (ix2 0 r)).trans ?_
  have hb : (FloatOps.ofBits .f32 0xFF800000#32 : Ideal .f32) = (⊥ : EReal) := ofBits_minus_infinity
  rw [hb]
  have hf : w ∘ reduces_S1x8x32768_S1x8.lift (ix2 0 r) = row w r := funext fun e => congrArg w (lift_eq r e)
  exact congrArg (fun f => Finset.fold max ⊥ f (Finset.univ : Finset (Fin 32768))) hf

/-- A row's pick is the fold of the signed minimum over its candidates. -/
theorem rowPick_apply (w : FVec Ideal S1x8x32768 .f32) (r : Fin 8) :
    rowPick w (ix2 0 r)
      = (Finset.univ : Finset (Fin 32768)).fold IKind.minsi.op 2147483647#32 (row (candidates w) r) := by
  refine (multiReductionI_eq_fold .minsi (candidates w) _ reduces_S1x8x32768_S1x8 _ (ix2 0 r)).trans ?_
  rw [Shape.Reduces.fold_filter_drop_single]
  have hf : candidates w ∘ reduces_S1x8x32768_S1x8.lift (ix2 0 r) = row (candidates w) r :=
    funext fun e => congrArg (candidates w) (lift_eq r e)
  exact congrArg (fun f => Finset.fold IKind.minsi.op 2147483647#32 f (Finset.univ : Finset (Fin 32768))) hf

/-- A position's number. -/
theorem positions_apply (r : Fin 8) (e : Fin 32768) : positions (ix3 0 r e) = BitVec.ofNat 32 e.val := by
  show BitVec.ofNat 32 (0 * 32768 + e.val) = _
  rw [Nat.zero_mul, Nat.zero_add]

/-- A candidate: the position's number where the row's maximum is, 32768 elsewhere. -/
theorem candidates_apply (w : FVec Ideal S1x8x32768 .f32) (r : Fin 8) (e : Fin 32768) :
    row (candidates w) r e = if row w r e = rowMax w (ix2 0 r) then BitVec.ofNat 32 e.val else 32768#32 := by
  show Scalar.select (FloatOps.cmpf .oeq (w (ix3 0 r e)) _) (positions (ix3 0 r e)) 32768#32 = _
  rw [spread_apply, positions_apply]
  show Scalar.select (BitVec.ofBool (decide (row w r e = rowMax w (ix2 0 r)))) _ _ = _
  rw [Scalar.select_ofBool]
  by_cases h : row w r e = rowMax w (ix2 0 r)
  · rw [if_pos h, decide_eq_true h]; rfl
  · rw [if_neg h, decide_eq_false h]; rfl

/-- A round marks a position where its number is the row's pick. -/
theorem hit_word (w : FVec Ideal S1x8x32768 .f32) (r : Fin 8) (e : Fin 32768) :
    hit w (ix3 0 r e) = IntOp.cmpi .eq (BitVec.ofNat 32 e.val) (rowPick w (ix2 0 r)) := by
  unfold hit cmpi
  rw [spread_apply, positions_apply]

/-- If `p` is the leftmost position of a row's maximum, a round marks `p` and nothing else. -/
theorem hit_apply (w : FVec Ideal S1x8x32768 .f32) (r : Fin 8) (p : Fin 32768)
    (hmax : ∀ e, row w r e ≤ row w r p) (hleft : ∀ e, row w r e = row w r p → p ≤ e) (e : Fin 32768) :
    hit w (ix3 0 r e) = BitVec.ofBool (decide (e = p)) := by
  have hm : rowMax w (ix2 0 r) = row w r p := by rw [rowMax_apply, fold_max_eq _ p hmax]
  have hc : ∀ e, row (candidates w) r e = if row w r e = row w r p then BitVec.ofNat 32 e.val else 32768#32 := fun e => by
    rw [candidates_apply, hm]
  have hcp : row (candidates w) r p = BitVec.ofNat 32 p.val := by rw [hc, if_pos rfl]
  have hlt : ∀ q : Fin 32768, (BitVec.ofNat 32 q.val).toInt = (q.val : Int) := fun q => toInt_word q.val q.isLt.le
  have hpick : rowPick w (ix2 0 r) = BitVec.ofNat 32 p.val := by
    rw [rowPick_apply, fold_minsi_eq _ _ p, hcp]
    · rw [hcp, hlt]
      have hp := p.isLt
      have hi : (2147483647#32 : BitVec 32).toInt = 2147483647 := by decide
      rw [hi]
      omega
    · intro e
      rw [hcp, hlt, hc]
      by_cases h : row w r e = row w r p
      · rw [if_pos h, hlt]
        exact_mod_cast hleft e h
      · rw [if_neg h]
        have hp := p.isLt
        have hi : (32768#32 : BitVec 32).toInt = 32768 := by decide
        rw [hi]
        omega
  rw [hit_word, hpick]
  refine congrArg BitVec.ofBool (decide_eq_decide.mpr ⟨fun h => ?_, fun h => by rw [h]⟩)
  exact Fin.ext (word_inj e.isLt.le p.isLt.le h)

open Classical in
/-- After `k` rounds on a row whose first `k` places are as `Takable` asks: these places are empty and marked, every other
    position holds its entry and is not marked. -/
theorem rounds_apply (x : FVec Ideal S1x8x32768 .f32) (r : Fin 8) (k : Nat) (hx : Takable (row x r) k) (hk : k ≤ 32768)
    (e : Fin 32768) :
    left x k (ix3 0 r e) = (if Among (row x r) k e then ⊥ else row x r e)
      ∧ marked x k (ix3 0 r e) = BitVec.ofBool (decide (Among (row x r) k e)) := by
  induction k generalizing e with
  | zero =>
    have h := not_among_zero (row x r) e
    exact ⟨by rw [if_neg h]; rfl, by rw [decide_eq_false h]; rfl⟩
  | succ k ih =>
    have ih := fun e => ih (fun p hp => hx p (Nat.lt_succ_of_lt hp)) (Nat.le_of_succ_le hk) e
    have hmax := maximum_at_order (row x r) ⟨k, hk⟩ (hx ⟨k, hk⟩ (Nat.lt_succ_self k)) (row (left x k) r)
      (fun e h => by
        have h' := (ih e).1
        rw [if_pos h] at h'
        exact h')
      (fun e h => by
        have h' := (ih e).1
        rw [if_neg h] at h'
        exact h')
    obtain ⟨hat, hle, hleft⟩ := hmax
    have hhit := hit_apply (left x k) r (order (row x r) ⟨k, hk⟩) (fun e => by rw [hat]; exact hle e)
      (fun e h => hleft e (by rw [← hat]; exact h)) e
    have hsucc := among_succ (row x r) ⟨k, hk⟩ e
    constructor
    · show Scalar.select (hit (left x k) (ix3 0 r e)) (FloatOps.ofBits .f32 0xFF800000#32) (left x k (ix3 0 r e)) = _
      have hb : (FloatOps.ofBits .f32 0xFF800000#32 : Ideal .f32) = (⊥ : EReal) := ofBits_minus_infinity
      rw [hhit, (ih e).1, hb, Scalar.select_ofBool]
      by_cases he : e = order (row x r) ⟨k, hk⟩
      · rw [decide_eq_true he, if_pos (hsucc.mpr (.inr he))]; rfl
      · rw [decide_eq_false he]
        by_cases ha : Among (row x r) k e
        · rw [if_pos ha, if_pos (hsucc.mpr (.inl ha))]; rfl
        · rw [if_neg ha, if_neg fun h => (hsucc.mp h).elim ha he]; rfl
    · show IntOp.ori (marked x k (ix3 0 r e)) (hit (left x k) (ix3 0 r e)) = _
      rw [hhit, (ih e).2]
      have hor : ∀ a b : Bool, IntOp.ori (BitVec.ofBool a) (BitVec.ofBool b) = BitVec.ofBool (a || b) := by decide
      rw [hor]
      refine congrArg BitVec.ofBool ?_
      rw [← Bool.decide_or]
      exact decide_eq_decide.mpr hsucc.symm

open Classical in
/-- The body on a row whose first ten places are as `Takable` asks keeps the entries at these places and writes zero
    elsewhere. -/
theorem body_apply (x : FVec Ideal S1x8x32768 .f32) (r : Fin 8) (hx : Takable (row x r) 10) (e : Fin 32768) :
    body x (ix3 0 r e) = if Among (row x r) 10 e then row x r e else (0 : EReal) := by
  show Scalar.select (marked x 10 (ix3 0 r e)) (x (ix3 0 r e)) (FloatOps.ofBits .f32 0x00000000#32) = _
  have h0 : (FloatOps.ofBits .f32 0x00000000#32 : Ideal .f32) = (0 : EReal) := Ideal.ofBits_zero_f32
  rw [(rounds_apply x r 10 hx (by decide) e).2, h0, Scalar.select_ofBool]
  by_cases ha : Among (row x r) 10 e
  · rw [decide_eq_true ha, if_pos ha]; rfl
  · rw [decide_eq_false ha, if_neg ha]; rfl

end Cert.TopRow
-- ==== Proof.Kept.lean ====
/- The function that both programs compute: of each row, the entries at the first ten places of its order, zero elsewhere. -/
module

public import Mathlib.Data.EReal.Basic
public import Idealize.ShloMosaic.Lib.Pointwise.Index
public import proofs.«01_k».proof.Proof.Order

@[expose] public section

noncomputable section

namespace Cert.TopRow

open Idealize.ShloMosaic

/-- The shape of the argument and of the result. -/
abbrev Whole : Shape := ⟨3, ![32, 32, 32768]⟩

/-- The row of batch `b` and head `h`. -/
def entries (x : Whole.Idx → EReal) (b h : Fin 32) : Fin 32768 → EReal := fun e => x (ix3 b h e)

open Classical in
/-- The argument with every entry that is not among the ten greatest of its row replaced by zero. -/
def kept (x : Whole.Idx → EReal) : Whole.Idx → EReal := fun i =>
  if Among (entries x (i 0) (i 1)) 10 (i 2) then x i else 0

end Cert.TopRow
-- ==== Proof.KernelValue.lean ====
/- The kernel's result: block by block it is the body of ten rounds, so on an argument whose rows have ten places as
   `Takable` asks the array after the run keeps the ten greatest entries of each row. -/
module

public import proofs.«01_k».proof.Proof.Gen.KernelIdeal.Value
public import Idealize.ShloMosaic.Lib.Pipeline.ValueKit
public import proofs.«01_k».proof.Proof.RoundRow
public import proofs.«01_k».proof.Proof.Kept

@[expose] public section

set_option maxRecDepth 16384

noncomputable section

namespace Cert.TopRow

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The argument, as the device finds it. -/
def argument (c : Dev nD) : Whole.Idx → EReal := m ((c.tc : Thread nD τ).loc main_arg0)

/-- Both windows take the block of batch `coords 0` and of the eight heads from `8 * coords 1`. -/
theorem index_eq : ∀ t : Fin grid0.N, win0_0.index t = ![(grid0.coords t 0).val, (grid0.coords t 1).val, 0]
    ∧ win0_1.index t = ![(grid0.coords t 0).val, (grid0.coords t 1).val, 0] := by decide +kernel

/-- The input block of point `t` at row `r` and position `e` is the argument at the place of the output block's index. -/
theorem block_apply (c : Dev nD) (t : Fin grid0.N) (r : Fin 8) (e : Fin 32768) (b h : Fin 32)
    (hb : b.val = (grid0.coords t 0).val) (hh : h.val = (grid0.coords t 1).val * 8 + r.val) :
    row (iblk m c 0 t) r e = entries (argument m c) b h e := by
  have idx := index_eq t
  unfold row entries argument
  blk_ext [iblk, V, idx]

/-- What point `t` leaves at an index of its block is the kept argument there. -/
theorem point_eq (c : Dev nD) (hx : ∀ b h, Takable (entries (argument m c) b h) 10) (t : Fin grid0.N) (r : Fin 8) (e : Fin 32768) :
    body (F := Ideal) (iblk m c 0 t) (ix3 0 r e) = kept (argument m c) ((win0_1.blk t).view.emb (ix3 0 r e)) := by
  have idx := (index_eq t).2
  have h0 : ((((win0_1.blk t).view.emb (ix3 0 r e)) 0 : Fin 32) : Nat) = (grid0.coords t 0).val := by
    blk_simp [idx]
    rfl
  have h1 : ((((win0_1.blk t).view.emb (ix3 0 r e)) 1 : Fin 32) : Nat) = (grid0.coords t 1).val * 8 + r.val := by
    blk_simp [idx]
  have h2 : ((((win0_1.blk t).view.emb (ix3 0 r e)) 2 : Fin 32768) : Nat) = e.val := by
    blk_simp [idx]
  generalize (win0_1.blk t).view.emb (ix3 0 r e) = i at h0 h1 h2 ⊢
  have hrows : row (iblk m c 0 t) r = entries (argument m c) (i 0) (i 1) :=
    funext fun e => block_apply m c t r e (i 0) (i 1) h0 h1
  have he : (i 2 : Fin 32768) = e := Fin.ext h2
  have hi : argument m c i = entries (argument m c) (i 0) (i 1) e := by
    rw [← he]
    exact congrArg (argument m c) (eq_ix3 i)
  rw [body_apply _ r (by rw [hrows]; exact hx _ _), hrows]
  unfold kept
  rw [he, hi]

/-- The array after the run. -/
theorem array_eq (c : Dev nD) (hx : ∀ b h, Takable (entries (argument m c) b h) 10) :
    (dats m 0 c).arrAt 1 cfg0.N = kept (argument m c) := by
  refine (dats m 0 c).arrAt_eq_of_covers 1 _ (by decide +kernel) fun t hf y => ?_
  blk_simp
  rw [after0_1, out_eq]
  have hy : (y : S1x8x32768.Idx) = ix3 0 (y 1) (y 2) := by
    funext a
    match a with
    | ⟨0, _⟩ => exact Fin.ext (Nat.lt_one_iff.mp ((y : S1x8x32768.Idx) 0).isLt)
    | ⟨1, _⟩ => rfl
    | ⟨2, _⟩ => rfl
  rw [hy]
  exact point_eq m c hx t (y 1) (y 2)

end Cert.TopRow
-- ==== Proof.TopPlaces.lean ====
/- The reference's selection read at an index: of each row, place `p` of the `K` greatest holds the entry at place `p` of the
   row's order, with that entry's position beside it as a word. -/
module

public import Idealize.ShloMosaic.PureOps.Ideal
public import Idealize.ShloMosaic.Lib.Pointwise.Index
public import proofs.«01_k».proof.Proof.Order

@[expose] public section

noncomputable section

namespace Cert.TopRow

open Idealize.ShloMosaic

variable {A B C K : Nat}

/-- An index moved along the last axis. -/
theorem along_last (b : Fin A) (h : Fin B) (p e : Fin C) :
    Shape.Idx.along (s := ⟨3, ![A, B, C]⟩) (ix3 b h p) (2 : Fin 3) e = ix3 b h e := by
  funext a
  match a with
  | ⟨0, _⟩ => rfl
  | ⟨1, _⟩ => rfl
  | ⟨2, _⟩ => rfl

/-- An index of the first `K` places, seen among all places. -/
theorem slice_index (hK : K ≤ C) (hs : (⟨3, ![A, B, C]⟩ : Shape).Slices (fun _ => 0) ⟨3, ![A, B, K]⟩) (b : Fin A) (h : Fin B)
    (p : Fin K) {α : Type} (y : (⟨3, ![A, B, C]⟩ : Shape).Idx → α) :
    extractStridedSlice ⟨3, ![A, B, K]⟩ (fun _ => 0) y hs (ix3 b h p) = y (ix3 b h (p.castLE hK)) := by
  unfold extractStridedSlice
  refine congrArg y (funext fun a => ?_)
  match a with
  | ⟨0, _⟩ => exact Fin.ext (Nat.zero_add _)
  | ⟨1, _⟩ => exact Fin.ext (Nat.zero_add _)
  | ⟨2, _⟩ => exact Fin.ext (Nat.zero_add _)

/-- The comparison by which the rows are sorted is "strictly greater". -/
theorem before_eq (x : Fin C → EReal) :
    (fun k k' => FloatOps.cmpfTotal (F := Ideal) (φ := .f32) .gt (x k) (x k') == 1#1) = greater x := by
  funext k k'
  show (BitVec.ofBool (decide (x k' < x k)) == 1#1) = decide (x k' < x k)
  cases decide (x k' < x k) <;> rfl

/-- The two arrays of the `K` greatest: the entries in order, and their positions. -/
theorem topK_apply (hK : K ≤ C) (hs : (⟨3, ![A, B, C]⟩ : Shape).Slices (fun _ => 0) ⟨3, ![A, B, K]⟩)
    (x : (⟨3, ![A, B, C]⟩ : Shape).Idx → EReal) (b : Fin A) (h : Fin B) (p : Fin K) :
    (Host.topK ⟨3, ![A, B, K]⟩ 2 (FloatOps.cmpfTotal (F := Ideal) (φ := .f32) .gt) x hs).1 (ix3 b h p)
        = x (ix3 b h (order (fun e => x (ix3 b h e)) (p.castLE hK)))
      ∧ (Host.topK ⟨3, ![A, B, K]⟩ 2 (FloatOps.cmpfTotal (F := Ideal) (φ := .f32) .gt) x hs).2 (ix3 b h p)
        = BitVec.ofNat 32 (order (fun e => x (ix3 b h e)) (p.castLE hK)).val := by
  have hd : 2 < (⟨3, ![A, B, C]⟩ : Shape).rank := (by decide : 2 < 3)
  unfold Host.topK Host.sort2
  simp only [dif_pos hd]
  rw [slice_index hK, slice_index hK]
  have hp : ∀ e, Shape.Idx.along (s := ⟨3, ![A, B, C]⟩) (ix3 b h (p.castLE hK)) ⟨2, hd⟩ e = ix3 b h e :=
    fun e => along_last b h (p.castLE hK) e
  simp only [hp]
  have ho : sortedFrom (fun k k' : Fin C => FloatOps.cmpfTotal (F := Ideal) (φ := .f32) .gt (x (ix3 b h k)) (x (ix3 b h k'))
      == 1#1) (p.castLE hK) = order (fun e => x (ix3 b h e)) (p.castLE hK) :=
    congrArg (fun f => sortedFrom f (p.castLE hK)) (before_eq fun e => x (ix3 b h e))
  exact ⟨congrArg (fun o => x (ix3 b h o)) ho, congrArg (fun o : Fin C => BitVec.ofNat 32 o.val) ho⟩

end Cert.TopRow
-- ==== Proof.ReferenceValue.lean ====
/- The reference's result: it writes, into an array of zeros, each of a row's ten greatest entries at its own place, so the
   array keeps the ten greatest entries of each row. -/
module

public import proofs.«01_k».proof.Proof.Gen.ReferenceIdeal.Run
public import Idealize.ShloMosaic.Lib.Pointwise
public import Idealize.ShloMosaic.Lib.Routing.OpsSet
public import proofs.«01_k».proof.Proof.RowFold
public import proofs.«01_k».proof.Proof.TopPlaces
public import proofs.«01_k».proof.Proof.Kept

@[expose] public section

noncomputable section

namespace Cert.TopRow.Reference

open Cert.ReferenceIdeal Cert.ReferenceIdeal.Gen Idealize.ShloMosaic

/-- The scatter's dimension numbers: three index words per update, one for each axis of the array. -/
abbrev dims : ScatterDims S32x32x32768 S32x32x10x3 S32x32x10 := scatter_S32x32x32768_S32x32x10x3_S32x32x10_n_012_012_3

/-- Where the update of batch `b`, head `h` and place `p` starts on an axis: at the index word for that axis. -/
theorem start_eq (idx : IVec S32x32x10x3 32) (b h : Fin 32) (p : Fin 10) :
    dims.start (ix3 b h p) idx 0 = (idx (ix4 b h p 0)).toInt ∧ dims.start (ix3 b h p) idx 1 = (idx (ix4 b h p 1)).toInt
      ∧ dims.start (ix3 b h p) idx 2 = (idx (ix4 b h p 2)).toInt := by
  refine ⟨?_, ?_, ?_⟩
  all_goals
    unfold ScatterDims.start
    rw [dif_pos (by decide)]
    refine congrArg (fun i => (idx i).toInt) (funext fun a => ?_)
    match a with
    | ⟨0, _⟩ => rfl
    | ⟨1, _⟩ => rfl
    | ⟨2, _⟩ => rfl
    | ⟨3, _⟩ => rfl

/-- An update is one element: it has no coordinate of its own in the array. -/
theorem window_eq (k : S32x32x10.Idx) : ∀ a, dims.window k a = 0 := by
  intro a
  unfold ScatterDims.window
  rw [dif_neg]
  revert a
  decide

/-- The ten greatest entries of each row, and their positions. -/
def top (x : S32x32x32768.Idx → EReal) : (S32x32x10.Idx → EReal) × IVec S32x32x10 32 :=
  Host.topK S32x32x10 2 (FloatOps.cmpfTotal (F := Ideal) (φ := .f32) .gt) x sliceFits_S32x32x32768_S32x32x10

/-- The position in its row of the entry at place `p` of batch `b` and head `h`. -/
def place (x : Whole.Idx → EReal) (b h : Fin 32) (p : Fin 10) : Fin 32768 :=
  order (entries x b h) (p.castLE (by decide))

/-- What stands at place `p`: the entry, and its position. -/
theorem top_apply (x : Whole.Idx → EReal) (b h : Fin 32) (p : Fin 10) :
    (top x).1 (ix3 b h p) = entries x b h (place x b h p) ∧ (top x).2 (ix3 b h p) = BitVec.ofNat 32 (place x b h p).val :=
  topK_apply (by decide) sliceFits_S32x32x32768_S32x32x10 x b h p

/-- The index words for the first axis: the batch. -/
def batchWords : IVec S32x32x10x1 32 :=
  broadcastInDim S32x32x10x1 ![0, 1, 2] bcast_S32x32x10_S32x32x10x1_0_1_2
    (broadcastInDim S32x32x10 ![0, 1, 2] bcast_S32x1x1_S32x32x10_0_1_2
      (select
        (cmpi .slt (broadcastInDim S32x1x1 ![0] bcast_S32_S32x1x1_0 (iotaInDim S32 32 0))
          (broadcastInDim S32x1x1 ![] bcast_S_S32x1x1 (constantI S_ 32 0#32)))
        (addi (broadcastInDim S32x1x1 ![0] bcast_S32_S32x1x1_0 (iotaInDim S32 32 0))
          (broadcastInDim S32x1x1 ![] bcast_S_S32x1x1 (constantI S_ 32 32#32)))
        (broadcastInDim S32x1x1 ![0] bcast_S32_S32x1x1_0 (iotaInDim S32 32 0))))

/-- The index words for the second axis: the head. -/
def headWords : IVec S32x32x10x1 32 :=
  broadcastInDim S32x32x10x1 ![0, 1, 2] bcast_S32x32x10_S32x32x10x1_0_1_2
    (broadcastInDim S32x32x10 ![0, 1, 2] bcast_S1x32x1_S32x32x10_0_1_2
      (select
        (cmpi .slt (broadcastInDim S1x32x1 ![1] bcast_S32_S1x32x1_1 (iotaInDim S32 32 0))
          (broadcastInDim S1x32x1 ![] bcast_S_S1x32x1 (constantI S_ 32 0#32)))
        (addi (broadcastInDim S1x32x1 ![1] bcast_S32_S1x32x1_1 (iotaInDim S32 32 0))
          (broadcastInDim S1x32x1 ![] bcast_S_S1x32x1 (constantI S_ 32 32#32)))
        (broadcastInDim S1x32x1 ![1] bcast_S32_S1x32x1_1 (iotaInDim S32 32 0))))

/-- The index words for the last axis: positions `w`, a negative one counted from the end. -/
def placeWords (w : IVec S32x32x10 32) : IVec S32x32x10x1 32 :=
  broadcastInDim S32x32x10x1 ![0, 1, 2] bcast_S32x32x10_S32x32x10x1_0_1_2
    (select (cmpi .slt w (broadcastInDim S32x32x10 ![] bcast_S_S32x32x10 (constantI S_ 32 0#32)))
      (addi w (broadcastInDim S32x32x10 ![] bcast_S_S32x32x10 (constantI S_ 32 32768#32))) w)

/-- The three index words of every update. -/
def words (w : IVec S32x32x10 32) : IVec S32x32x10x3 32 :=
  concatenate S32x32x10x3 3 [⟨S32x32x10x1, batchWords⟩, ⟨S32x32x10x1, headWords⟩, ⟨S32x32x10x1, placeWords w⟩]
    concatenates_S32x32x10x1_S32x32x10x1_S32x32x10x1_S32x32x10x3_d3

/-- A small number's word is not negative, so the wrap of a negative index leaves it. -/
theorem wrap_word (n : Nat) (hn : n ≤ 32768) (a : BitVec 32) :
    Scalar.select (IntOp.cmpi .slt (BitVec.ofNat 32 n) 0#32) a (BitVec.ofNat 32 n) = BitVec.ofNat 32 n :=
  Routing.wrap_of_lt _ _ (by rw [BitVec.toNat_ofNat]; omega)

/-- Its word for the batch is the batch's number. -/
theorem batchWords_apply (b h : Fin 32) (p : Fin 10) : batchWords (ix4 b h p 0) = BitVec.ofNat 32 b.val := by
  unfold batchWords
  pointwise
  exact wrap_word _ (by omega) _

/-- Its word for the head is the head's number. -/
theorem headWords_apply (b h : Fin 32) (p : Fin 10) : headWords (ix4 b h p 0) = BitVec.ofNat 32 h.val := by
  unfold headWords
  pointwise
  exact wrap_word _ (by omega) _

/-- Its word for the position is the position itself, where that is a small number. -/
theorem placeWords_apply (w : IVec S32x32x10 32) (b h : Fin 32) (p : Fin 10) (n : Nat) (hn : n ≤ 32768)
    (hw : w (ix3 b h p) = BitVec.ofNat 32 n) : placeWords w (ix4 b h p 0) = BitVec.ofNat 32 n := by
  unfold placeWords
  pointwise
  rw [hw]
  exact wrap_word n hn _

/-- The three words of one update. -/
theorem words_apply (w : IVec S32x32x10 32) (b h : Fin 32) (p : Fin 10) :
    words w (ix4 b h p 0) = batchWords (ix4 b h p 0) ∧ words w (ix4 b h p 1) = headWords (ix4 b h p 0)
      ∧ words w (ix4 b h p 2) = placeWords w (ix4 b h p 0) := by
  unfold words
  refine ⟨?_, ?_, ?_⟩
  · pointwise
  · pointwise
  · pointwise

/-- Which updates land at an element: those of its batch and its head whose place holds its position. -/
theorem lands_iff (x : Whole.Idx → EReal) (b h : Fin 32) (p : Fin 10) (i : Whole.Idx) :
    dims.resultIdx? (ix3 b h p) (words (top x).2) = some i ↔ b = i 0 ∧ h = i 1 ∧ place x b h p = i 2 := by
  obtain ⟨s0, s1, s2⟩ := start_eq (words (top x).2) b h p
  obtain ⟨w0, w1, w2⟩ := words_apply (top x).2 b h p
  have hp := (place x b h p).isLt
  rw [w0, batchWords_apply, toInt_word _ (by omega)] at s0
  rw [w1, headWords_apply, toInt_word _ (by omega)] at s1
  rw [w2, placeWords_apply _ b h p _ hp.le (top_apply x b h p).2, toInt_word _ hp.le] at s2
  rw [Routing.resultIdx?_eq_some]
  constructor
  · intro q
    have q0 := q 0
    have q1 := q 1
    have q2 := q 2
    rw [window_eq, s0] at q0
    rw [window_eq, s1] at q1
    rw [window_eq, s2] at q2
    exact ⟨Fin.ext (by omega), Fin.ext (by omega), Fin.ext (by omega)⟩
  · rintro ⟨q0, q1, q2⟩ a
    rw [window_eq]
    match a with
    | ⟨0, _⟩ => exact (Int.add_zero _).trans (s0.trans (congrArg (fun t : Fin 32 => (t.val : Int)) q0))
    | ⟨1, _⟩ => exact (Int.add_zero _).trans (s1.trans (congrArg (fun t : Fin 32 => (t.val : Int)) q1))
    | ⟨2, _⟩ => exact (Int.add_zero _).trans (s2.trans (congrArg (fun t : Fin 32768 => (t.val : Int)) q2))

/-- Every update has a batch, a head and a place. -/
theorem update_cases (k : S32x32x10.Idx) : ∃ (b h : Fin 32) (p : Fin 10), k = ix3 b h p := ⟨k 0, k 1, k 2, eq_ix3 k⟩

/-- An array of zeros with the ten greatest entries of each row written into it is the kept argument. -/
theorem scatter_eq (x : Whole.Idx → EReal) (z : Whole.Idx → EReal) (hz : ∀ i, z i = 0) :
    Host.scatter dims (fun _ b => b) z (words (top x).2) (top x).1 = kept x := by
  funext i
  unfold kept
  by_cases ha : Among (entries x (i 0) (i 1)) 10 (i 2)
  · rw [if_pos ha]
    obtain ⟨q, hq, hqe⟩ := ha
    refine Routing.scatter_set_hit dims z _ _ i (x i) (fun k hk => ?_) (ix3 (i 0) (i 1) (⟨q.val, hq⟩ : Fin 10))
      ((lands_iff x _ _ _ i).2 ⟨rfl, rfl, hqe⟩)
    obtain ⟨b, h, p, rfl⟩ := update_cases k
    obtain ⟨h0, h1, h2⟩ := (lands_iff x _ _ _ i).1 hk
    rw [(top_apply x _ _ _).1, h2, h0, h1]
    exact (congrArg x (eq_ix3 i)).symm
  · rw [if_neg ha]
    rw [Routing.scatter_set_miss dims z _ _ i fun k hk => ?_, hz]
    obtain ⟨b, h, p, rfl⟩ := update_cases k
    obtain ⟨h0, h1, h2⟩ := (lands_iff x _ _ _ i).1 hk
    refine ha ⟨p.castLE (by decide), p.isLt, ?_⟩
    rw [← h0, ← h1]
    exact h2

end Cert.TopRow.Reference
-- ==== Proof.Above.lean ====
/- The precondition read on a row: of the entries after the first, nine are above `-∞`, so the row's first ten places are such
   that ten rounds take them. -/
module

public import proofs.«01_k».proof.Proof.Gen.Pre_enough_above
public import Idealize.ShloMosaic.Lib.Pointwise
public import Idealize.ShloMosaic.Lib.ReduceAll
public import proofs.«01_k».proof.Proof.RowFold
public import proofs.«01_k».proof.Proof.TopPlaces
public import proofs.«01_k».proof.Proof.Kept

@[expose] public section

noncomputable section

namespace Cert.TopRow

open Cert.Pre_enough_above Cert.Pre_enough_above.Gen Idealize.ShloMosaic

/-- A shape without axes has one index. -/
instance one_index : Subsingleton S_.Idx := ⟨fun a b => funext fun c => Fin.elim0 c⟩

/-- The argument without the first entry of each row. -/
def others (x : Whole.Idx → EReal) : S32x32x32767.Idx → EReal :=
  extractStridedSlice S32x32x32767 ![0, 0, 1] x slices_S32x32x32768_S32x32x32767_0_0_1

/-- Its entry `e` is the argument's entry `e + 1`. -/
theorem others_apply (x : Whole.Idx → EReal) (b h : Fin 32) (e : Fin 32767) : others x (ix3 b h e) = entries x b h e.succ := by
  unfold others entries extractStridedSlice
  refine congrArg x (funext fun a => ?_)
  match a with
  | ⟨0, _⟩ => exact Fin.ext (Nat.zero_add _)
  | ⟨1, _⟩ => exact Fin.ext (Nat.zero_add _)
  | ⟨2, _⟩ => exact Fin.ext (Nat.add_comm _ _)

/-- Where the precondition holds, the nine greatest of a row's other entries are above `-∞`. -/
theorem others_above (x : Whole.Idx → EReal) (hpre : Cert.Pre_enough_above.fn (F := Ideal) x = fun _ => 1#1) (b h : Fin 32)
    (p : Fin 9) :
    ⊥ < others x (ix3 b h (order (fun e => others x (ix3 b h e)) (p.castLE (by decide)))) := by
  unfold Cert.Pre_enough_above.fn at hpre
  have hi := Host.reduce_andi_all _ _ _ _ _ (congrFun hpre ix0) (ix3 b h p)
  have hc : Ideal.cmp .ogt ((Host.topK S32x32x9 2 (FloatOps.cmpfTotal (F := Ideal) (φ := .f32) .gt) (others x)
      sliceFits_S32x32x32767_S32x32x9).1 (ix3 b h p)) (FloatOps.ofBits .f32 0xFF800000#32 : Ideal .f32) = 1#1 := hi
  have hb : (FloatOps.ofBits .f32 0xFF800000#32 : Ideal .f32) = (⊥ : EReal) := ofBits_minus_infinity
  rw [hb, (topK_apply (by decide) sliceFits_S32x32x32767_S32x32x9 (others x) b h p).1] at hc
  exact (Ideal.cmp_ogt_eq_one _ _).mp hc

/-- Where the precondition holds, ten places of each row are as `Takable` asks. -/
theorem takable (x : Whole.Idx → EReal) (hpre : Cert.Pre_enough_above.fn (F := Ideal) x = fun _ => 1#1) (b h : Fin 32) :
    Takable (entries x b h) 10 :=
  takable_of_others (n := 32767) (entries x b h) 9 (fun p => order (fun e => others x (ix3 b h e)) (p.castLE (by decide)))
    (fun _ _ hab => Fin.castLE_injective _ (order_injective _ hab))
    fun p => lt_of_lt_of_eq (others_above x hpre b h p) (others_apply x b h _)

end Cert.TopRow
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_enough_above
public import proofs.«01_k».proof.Proof.Gen.KernelIdeal.Value
public import proofs.«01_k».proof.Proof.Gen.ReferenceIdeal.Run
public import Idealize.ShloMosaic.Lib.StableHlo.RunHlo
public import Idealize.ShloMosaic.Lib.Quiescent
public import proofs.«01_k».proof.Proof.KernelValue
public import proofs.«01_k».proof.Proof.ReferenceValue
public import proofs.«01_k».proof.Proof.Above
public import Idealize.ShloMosaic.Adequacy
public import Idealize.ShloMosaic.Init

@[expose] public section

noncomputable section

namespace Cert.Proof

open Idealize.ShloMosaic Idealize.SL.Sem Cert.TopRow

/-- The kernel runs and leaves its argument as it was and every semaphore at zero. -/
theorem kernel_frame : Cert.quiescent_Kernel := fun m g _ => Cert.Kernel.Gen.frame m g

/-- So does the kernel on extended reals, whatever the argument. -/
theorem ideal_frame : Cert.quiescent_KernelIdeal := fun m g _ => Cert.KernelIdeal.Gen.frame m g

/-- And under the precondition. -/
theorem ideal_frame_above : Cert.quiescent_KernelIdeal_pre_enough_above := fun m g _ => Cert.KernelIdeal.Gen.frame m g

/-- The reference has no semaphore. -/
theorem reference_no_sems : Cert.ReferenceIdeal.sig.nSem + Cert.ReferenceIdeal.sig.nDmaSem = 0 := rfl

/-- The reference runs and leaves its argument as it was and every semaphore at zero. -/
theorem reference_frame : Cert.quiescent_ReferenceIdeal := fun m g _ =>
  θ_run_mono (Cert.ReferenceIdeal.Value.run m g) fun r hr =>
    ⟨fun c => (hr c).2, sem_eq_zero_of_no_sems reference_no_sems r.2⟩

/-- And under the precondition. -/
theorem reference_frame_above : Cert.quiescent_ReferenceIdeal_pre_enough_above := fun m g _ =>
  reference_frame m g trivial

/-- The kernel's run, on an argument whose rows have ten places as `Takable` asks: the result is the kept argument. -/
theorem kernel_value (m : (ℓ : Loc Cert.KernelIdeal.nD Cert.KernelIdeal.τ Cert.KernelIdeal.sig) → Buf (Elt Ideal) ℓ)
    (g : Dev Cert.KernelIdeal.nD → PrngReg) (hx : ∀ c b h, Takable (entries (argument m c) b h) 10) :
    θ_run (Cert.KernelIdeal.defs (F := Ideal)) (onTc (τ := Cert.KernelIdeal.τ) (Cert.KernelIdeal.main (F := Ideal)))
      ⟨m, fun _ => 0, g⟩ fun r => ∀ c : Dev Cert.KernelIdeal.nD,
        r.2.mem ((c.tc : Thread Cert.KernelIdeal.nD Cert.KernelIdeal.τ).loc Cert.KernelIdeal.main_v0) = kept (argument m c)
        ∧ r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0) :=
  θ_run_mono (Cert.KernelIdeal.Value.run_blocks m g) fun _ hr c => ⟨(hr c).1.trans (array_eq m c (hx c)), (hr c).2⟩

/-- The reference's run: the result is the kept argument, whatever the argument. -/
theorem reference_value (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ fun r => ∀ c : Dev Cert.ReferenceIdeal.nD,
        r.2.mem ((c.tc : Thread Cert.ReferenceIdeal.nD Cert.ReferenceIdeal.τ).loc Cert.ReferenceIdeal.main_v26)
          = kept (m ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0) :=
  θ_run_mono (Cert.ReferenceIdeal.Value.run m g) fun _ hr c =>
    ⟨(hr c).1.trans (Reference.scatter_eq _ _ fun _ => Ideal.ofBits_zero_f32), (hr c).2⟩

/-- On extended reals and under the precondition, the kernel's result is the reference's. -/
theorem algebraic : Cert.algebraic_KernelIdeal_ReferenceIdeal_pre_enough_above := fun m g m' g' hpre hagree =>
  ⟨fun c => kept (argument m c), kernel_value m g fun c b h => takable (argument m c) (hpre c) b h,
    θ_run_mono (reference_value m' g') fun _ hr c => ⟨(hr c).1.trans (congrArg kept (hagree c)), (hr c).2⟩⟩

/-- All the claims. -/
theorem claim : Cert.Claim :=
  ⟨Cert.Kernel.Gen.facts, Cert.KernelIdeal.Gen.facts, Cert.ReferenceIdeal.Gen.facts, Cert.Pre_enough_above.Gen.facts,
    kernel_frame, ideal_frame, ideal_frame_above, reference_frame, reference_frame_above, trivial, algebraic⟩

end Cert.Proof

end
